-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x3072x13824 : Shape := ⟨3, ![2, 3072, 13824]⟩
abbrev S2x3072x108 : Shape := ⟨3, ![2, 3072, 108]⟩
abbrev S13824x26368 : Shape := ⟨2, ![13824, 26368]⟩
abbrev S108x206 : Shape := ⟨2, ![108, 206]⟩
abbrev S26368 : Shape := ⟨1, ![26368]⟩
abbrev S6144x13824 : Shape := ⟨2, ![6144, 13824]⟩
abbrev S6144x108 : Shape := ⟨2, ![6144, 108]⟩
abbrev S1x26368 : Shape := ⟨2, ![1, 26368]⟩
abbrev S6144x26368 : Shape := ⟨2, ![6144, 26368]⟩
abbrev S1024x13824 : Shape := ⟨2, ![1024, 13824]⟩
abbrev S1024x108 : Shape := ⟨2, ![1024, 108]⟩
abbrev S13824x256 : Shape := ⟨2, ![13824, 256]⟩
abbrev S1x256 : Shape := ⟨2, ![1, 256]⟩
abbrev S1024x256 : Shape := ⟨2, ![1024, 256]⟩
abbrev S1024x1 : Shape := ⟨2, ![1024, 1]⟩
abbrev S1024x128 : Shape := ⟨2, ![1024, 128]⟩
abbrev S1x1 : Shape := ⟨2, ![1, 1]⟩
abbrev S128x128 : Shape := ⟨2, ![128, 128]⟩
abbrev S128x256 : Shape := ⟨2, ![128, 256]⟩
abbrev S512x256 : Shape := ⟨2, ![512, 256]⟩
abbrev S1024x512 : Shape := ⟨2, ![1024, 512]⟩
abbrev S2x3072x26368 : Shape := ⟨3, ![2, 3072, 26368]⟩

abbrev nBuf : Space → Nat
  | .hbm => 10
  | .vmem => 11
  | .smem => 1
  | _ => 0

abbrev bufTy : (tb : Table) → Fin (tcTables nBuf tb) → BufTy
  | .hbm, ⟨0, _⟩ => ⟨S2x3072x13824, .fp8e4m3⟩
  | .hbm, ⟨1, _⟩ => ⟨S2x3072x108, .f32⟩
  | .hbm, ⟨2, _⟩ => ⟨S13824x26368, .fp8e4m3⟩
  | .hbm, ⟨3, _⟩ => ⟨S108x206, .f32⟩
  | .hbm, ⟨4, _⟩ => ⟨S26368, .bf16⟩
  | .hbm, ⟨5, _⟩ => ⟨S6144x13824, .fp8e4m3⟩
  | .hbm, ⟨6, _⟩ => ⟨S6144x108, .f32⟩
  | .hbm, ⟨7, _⟩ => ⟨S1x26368, .bf16⟩
  | .hbm, ⟨8, _⟩ => ⟨S6144x26368, .bf16⟩
  | .hbm, ⟨9, _⟩ => ⟨S2x3072x26368, .bf16⟩
  | .local _ .vmem, ⟨0, _⟩ => ⟨S1024x13824, .fp8e4m3⟩
  | .local _ .vmem, ⟨1, _⟩ => ⟨S1024x108, .f32⟩
  | .local _ .vmem, ⟨2, _⟩ => ⟨S1024x108, .f32⟩
  | .local _ .vmem, ⟨3, _⟩ => ⟨S13824x256, .fp8e4m3⟩
  | .local _ .vmem, ⟨4, _⟩ => ⟨S13824x256, .fp8e4m3⟩
  | .local _ .vmem, ⟨5, _⟩ => ⟨S1x256, .bf16⟩
  | .local _ .vmem, ⟨6, _⟩ => ⟨S1x256, .bf16⟩
  | .local _ .vmem, ⟨7, _⟩ => ⟨S1024x256, .bf16⟩
  | .local _ .vmem, ⟨8, _⟩ => ⟨S1024x256, .bf16⟩
  | .local _ .vmem, ⟨9, _⟩ => ⟨S1024x13824, .bf16⟩
  | .local _ .vmem, ⟨10, _⟩ => ⟨S1024x256, .f32⟩
  | .local _ .smem, ⟨0, _⟩ => ⟨S108x206, .f32⟩
  | _, _ => ⟨S2x3072x13824, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_scratch1 : Ref sig .tc := ⟨.vmem, 10, rfl⟩
abbrev cc0_stg3_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![6, 103], ![false, false]⟩

@[reducible] def k0_t1_loop : Scf.Loop 32 :=
  let c0_i32_2 : BitVec 32 := 0#32
  let c27_i32 : BitVec 32 := 27#32
  let v7 : BitVec 32 := Scalar.addi c0_i32_2 c27_i32
  let c1_i32 : BitVec 32 := 1#32
  ⟨c0_i32_2, v7, c1_i32⟩
def k0_mult1 (k0_t1 : Fin k0_t1_loop.trips) : BitVec 32 :=
  let c0_i32_2 : BitVec 32 := 0#32
  let c1_i32 : BitVec 32 := 1#32
  let arg10 : BitVec 32 := Scf.iv c0_i32_2 c1_i32 k0_t1
  let c512_i32 : BitVec 32 := 512#32
  let v16 : BitVec 32 := Scalar.muli arg10 c512_i32
  let c0_i32_10 : BitVec 32 := 0#32
  let v17 : BitVec 32 := Scalar.addi v16 c0_i32_10
  v17
def k0_off1 (i : grid0.Coords) (k0_t1 : Fin k0_t1_loop.trips) (c0_i32_11 : BitVec 32) (c0_i32_12 : BitVec 32) : Fin 2 → Nat :=
  let c0_i32_2 : BitVec 32 := 0#32
  let c1_i32 : BitVec 32 := 1#32
  let arg10 : BitVec 32 := Scf.iv c0_i32_2 c1_i32 k0_t1
  let c4_i32 : BitVec 32 := 4#32
  let v19 : BitVec 32 := Scalar.muli arg10 c4_i32
  let v20 : BitVec 32 := Scalar.addi v19 c0_i32_11
  let v23 : Index := Scalar.indexCast v20
  let arg1 : BitVec 32 := BitVec.ofNat 32 (i 1).val
  let c2_i32 : BitVec 32 := 2#32
  let v21 : BitVec 32 := Scalar.muli arg1 c2_i32
  let v22 : BitVec 32 := Scalar.addi v21 c0_i32_12
  let v24 : Index := Scalar.indexCast v22
  ![v23.toNat, v24.toNat]
def k0_off2 (k0_t1 : Fin k0_t1_loop.trips) (c0_i32_10 : BitVec 32) : Fin 2 → Nat :=
  let c0_i32_2 : BitVec 32 := 0#32
  let c1_i32 : BitVec 32 := 1#32
  let arg10 : BitVec 32 := Scf.iv c0_i32_2 c1_i32 k0_t1
  let c512_i32 : BitVec 32 := 512#32
  let v16 : BitVec 32 := Scalar.muli arg10 c512_i32
  let v17 : BitVec 32 := Scalar.addi v16 c0_i32_10
  let v18 : BitVec 32 := v17
  let v26 : Index := Scalar.indexCast v18
  let c0_13 : Index := 0#32
  ![v26.toNat, 0]
def k0_off3 (k0_t1 : Fin k0_t1_loop.trips) (c0_i32_10 : BitVec 32) : Fin 2 → Nat :=
  let c0_i32_2 : BitVec 32 := 0#32
  let c1_i32 : BitVec 32 := 1#32
  let arg10 : BitVec 32 := Scf.iv c0_i32_2 c1_i32 k0_t1
  let c512_i32 : BitVec 32 := 512#32
  let v16 : BitVec 32 := Scalar.muli arg10 c512_i32
  let v17 : BitVec 32 := Scalar.addi v16 c0_i32_10
  let v18 : BitVec 32 := v17
  let v39 : Index := Scalar.indexCast v18
  let c128 : Index := 128#32
  ![v39.toNat, 128]
def k0_mult2 (k0_t1 : Fin k0_t1_loop.trips) : BitVec 32 :=
  let c0_i32_2 : BitVec 32 := 0#32
  let c1_i32 : BitVec 32 := 1#32
  let arg10 : BitVec 32 := Scf.iv c0_i32_2 c1_i32 k0_t1
  let c512_i32_18 : BitVec 32 := 512#32
  let v46 : BitVec 32 := Scalar.muli arg10 c512_i32_18
  let c128_i32 : BitVec 32 := 128#32
  let v47 : BitVec 32 := Scalar.addi v46 c128_i32
  v47
def k0_mult3 (k0_t1 : Fin k0_t1_loop.trips) : BitVec 32 :=
  let c0_i32_2 : BitVec 32 := 0#32
  let c1_i32 : BitVec 32 := 1#32
  let arg10 : BitVec 32 := Scf.iv c0_i32_2 c1_i32 k0_t1
  let c512_i32_29 : BitVec 32 := 512#32
  let v76 : BitVec 32 := Scalar.muli arg10 c512_i32_29
  let c256_i32 : BitVec 32 := 256#32
  let v77 : BitVec 32 := Scalar.addi v76 c256_i32
  v77
def k0_mult4 (k0_t1 : Fin k0_t1_loop.trips) : BitVec 32 :=
  let c0_i32_2 : BitVec 32 := 0#32
  let c1_i32 : BitVec 32 := 1#32
  let arg10 : BitVec 32 := Scf.iv c0_i32_2 c1_i32 k0_t1
  let c512_i32_40 : BitVec 32 := 512#32
  let v106 : BitVec 32 := Scalar.muli arg10 c512_i32_40
  let c384_i32 : BitVec 32 := 384#32
  let v107 : BitVec 32 := Scalar.addi v106 c384_i32
  v107
def k0_mult5 (k0_t1 : Fin k0_t1_loop.trips) : BitVec 32 :=
  let c0_i32_2 : BitVec 32 := 0#32
  let c1_i32 : BitVec 32 := 1#32
  let arg10 : BitVec 32 := Scf.iv c0_i32_2 c1_i32 k0_t1
  let c512_i32_50 : BitVec 32 := 512#32
  let v137 : BitVec 32 := Scalar.muli arg10 c512_i32_50
  v137
def k0_off4 (k0_t1 : Fin k0_t1_loop.trips) : Fin 2 → Nat :=
  let c0_51 : Index := 0#32
  let c0_i32_2 : BitVec 32 := 0#32
  let c1_i32 : BitVec 32 := 1#32
  let arg10 : BitVec 32 := Scf.iv c0_i32_2 c1_i32 k0_t1
  let c512_i32_50 : BitVec 32 := 512#32
  let v137 : BitVec 32 := Scalar.muli arg10 c512_i32_50
  let v138 : BitVec 32 := v137
  let v139 : Index := Scalar.indexCast v138
  ![0, v139.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1024x13824 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1024x108 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S13824x256 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .smem S108x206 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S2x3072x13824 : Shape := ⟨3, ![2, 3072, 13824]⟩
abbrev S2x3072x108 : Shape := ⟨3, ![2, 3072, 108]⟩
abbrev S13824x26368 : Shape := ⟨2, ![13824, 26368]⟩
abbrev S108x206 : Shape := ⟨2, ![108, 206]⟩
abbrev S26368 : Shape := ⟨1, ![26368]⟩
abbrev S2x3072x26368 : Shape := ⟨3, ![2, 3072, 26368]⟩
abbrev S2x3072x108x128 : Shape := ⟨4, ![2, 3072, 108, 128]⟩
abbrev S2x3072x108x1 : Shape := ⟨4, ![2, 3072, 108, 1]⟩
abbrev S108x128x206x128 : Shape := ⟨4, ![108, 128, 206, 128]⟩
abbrev S108x1x206x1 : Shape := ⟨4, ![108, 1, 206, 1]⟩
abbrev S1x1x26368 : Shape := ⟨3, ![1, 1, 26368]⟩

abbrev nBuf : Space → Nat
  | .hbm => 6
  | .vmem => 6
  | .smem => 0
  | _ => 0

abbrev bufTy : (tb : Table) → Fin (tcTables nBuf tb) → BufTy
  | .hbm, ⟨0, _⟩ => ⟨S2x3072x13824, .fp8e4m3⟩
  | .hbm, ⟨1, _⟩ => ⟨S2x3072x108, .f32⟩
  | .hbm, ⟨2, _⟩ => ⟨S13824x26368, .fp8e4m3⟩
  | .hbm, ⟨3, _⟩ => ⟨S108x206, .f32⟩
  | .hbm, ⟨4, _⟩ => ⟨S26368, .bf16⟩
  | .hbm, ⟨5, _⟩ => ⟨S2x3072x26368, .bf16⟩
  | .local _ .vmem, ⟨0, _⟩ => ⟨S2x3072x13824, .fp8e4m3⟩
  | .local _ .vmem, ⟨1, _⟩ => ⟨S2x3072x108, .f32⟩
  | .local _ .vmem, ⟨2, _⟩ => ⟨S13824x26368, .fp8e4m3⟩
  | .local _ .vmem, ⟨3, _⟩ => ⟨S108x206, .f32⟩
  | .local _ .vmem, ⟨4, _⟩ => ⟨S26368, .bf16⟩
  | .local _ .vmem, ⟨5, _⟩ => ⟨S2x3072x26368, .bf16⟩
  | _, _ => ⟨S2x3072x13824, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S2x3072x13824 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x3072x108 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S13824x26368 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S108x206 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S26368 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x3072x26368 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Payloads.lean ====
/-
  What the values the kernel body stores are, entry by entry, over the extended reals: one group of 128 widened
  activation columns, the widened 512 x 256 weight block of one k step, one step of the accumulation, and the
  output block. Casts between float formats are the identity there.
-/
module

public import proofs.«01_k».proof.Proof.Gen.KernelIdeal.Skeleton
public import Idealize.ShloMosaic.Lib.Pipeline.Value
public import Idealize.ShloMosaic.Lib.Pointwise
public import Idealize.ShloMosaic.Lib.MatmulPlain

@[expose] public section

set_option maxRecDepth 16384

noncomputable section

namespace Cert.KernelIdeal.Hand

open Idealize.ShloMosaic Idealize.ShloMosaic.TcCoe
open Cert.KernelIdeal.Gen

/-- One group of widened activations: entry `(r, c)` is the stored activation times its row's group scale. -/
theorem pay2_apply (s : Vec Ideal S1024x1 .f32) (x : Vec Ideal S1024x128 .fp8e4m3) (r : Fin 1024) (c : Fin 128) :
    k0_pay2 (F := Ideal) s x (ix2 r c) = x (ix2 r c) * s (ix2 r 0) := by
  unfold k0_pay2
  simp only [shapeCast_self]
  pointwise

/-- The accumulator starts at zero. -/
theorem pay3_apply (r : Fin 1024) (n : Fin 256) : k0_pay3 (F := Ideal) (ix2 r n) = 0 := by
  unfold k0_pay3
  simp only [shapeCast_self]
  pointwise

/-- One accumulation step: entry `(r, n)` of the accumulator gains the product's 512 terms. -/
theorem pay4_apply (w : FVec Ideal S512x256 .bf16) (x : Vec Ideal S1024x512 .bf16) (acc : Vec Ideal S1024x256 .f32)
    (r : Fin 1024) (n : Fin 256) :
    k0_pay4 (F := Ideal) w x acc (constant S1024x256 .f32 0x00000000#32) (ix2 r n)
      = acc (ix2 r n) + ∑ k : Fin 512, x (ix2 r k) * w (ix2 k n) := by
  unfold k0_pay4
  simp only [shapeCast_self]
  pointwise

/-- The output block: the accumulator plus the bias of the column. -/
theorem pay5_apply (acc : Vec Ideal S1024x256 .f32) (b : Vec Ideal S1x256 .bf16) (r : Fin 1024) (n : Fin 256) :
    k0_pay5 (F := Ideal) acc b (ix2 r n) = acc (ix2 r n) + b (ix2 0 n) := by
  unfold k0_pay5
  simp only [shapeCast_self]
  pointwise

/-- The widened weight block of one k step, from its eight 128 x 128 tiles `T g h` and their eight scales `S g h`. -/
def wBlock (S : Fin 4 → Fin 2 → EReal) (T : Fin 4 → Fin 2 → Vec Ideal S128x128 .fp8e4m3) : FVec Ideal S512x256 .bf16 :=
  k0_pay137 (F := Ideal) (k0_pay134 (F := Ideal) (S 0 0) (T 0 0) (S 0 1) (T 0 1))
    (k0_pay135 (F := Ideal) (S 1 0) (T 1 0) (S 1 1) (T 1 1)) (k0_pay136 (F := Ideal) (S 2 0) (T 2 0)) (S 2 1) (T 2 1)
    (S 3 0) (T 3 0) (S 3 1) (T 3 1)

/-- Its entry `(k, n)` is the entry of the tile it falls in times that tile's scale: whatever function `W` of the row
    and the column says so of each tile says so of the block. -/
theorem wBlock_apply (S : Fin 4 → Fin 2 → EReal) (T : Fin 4 → Fin 2 → Vec Ideal S128x128 .fp8e4m3) (W : ℕ → ℕ → EReal)
    (hT : ∀ (g : Fin 4) (h : Fin 2) (a b : Fin 128), T g h (ix2 a b) * S g h = W (128 * g.val + a.val) (128 * h.val + b.val))
    (k : Fin 512) (n : Fin 256) : wBlock S T (ix2 k n) = W k.val n.val := by
  have hk := k.isLt
  have hn := n.isLt
  unfold wBlock k0_pay137 k0_pay135 k0_pay134 k0_pay136
  pointwise
  split_ifs <;> refine (hT _ _ _ _).trans (congrArg₂ W ?_ ?_) <;>
    simp only [Fin.val_zero, Fin.val_one, Fin.val_two, Fin.isValue, Fin.val_mk, Fin.reduceFinMk, Fin.coe_ofNat_eq_mod] <;> omega

end Cert.KernelIdeal.Hand

end
-- ==== Proof.Trip.lean ====
/-
  One trip of the kernel's loop over the contraction: it replaces the accumulator by itself plus the product of 512
  columns of the widened activations with the widened 512 x 256 weight block. Here: the one store a trip makes, and what
  it loads, entry by entry.
-/
module

public import proofs.«01_k».proof.Proof.Gen.KernelIdeal.Loops
public import proofs.«01_k».proof.Proof.Payloads
public import Idealize.ShloMosaic.Lib.Pipeline.ValueKit

@[expose] public section

set_option maxRecDepth 16384

noncomputable section

namespace Cert.KernelIdeal.Hand

open Idealize.ShloMosaic Idealize.ShloMosaic.TcCoe Idealize.ShloMosaic.Tactic Idealize.SL.Sem
open Cert.KernelIdeal.Gen

/-- Two zero offsets are the zero family. -/
theorem hz : (![0, 0] : Fin 2 → Nat) = fun _ => 0 := funext fun a => by fin_cases a <;> rfl

/-- The loop makes 27 trips. -/
theorem trips_eq : k0_t1_loop.trips = 27 := by decide +kernel

/-- The eight weight scales trip `k` loads: of group row `4 k + g` and group column `2 j + h`. -/
def scaleOf (i : grid0.Coords) (arg5 : Memref sig .tc .smem S108x206 .f32) (X5 : BufTy.Contents (Elt Ideal) arg5.view.ty)
    (k : Fin k0_t1_loop.trips) (g : Fin 4) (h : Fin 2) : EReal :=
  View.readAt (Elt Ideal) arg5.view (Rect.unit (s := S108x206) (k0_off1 i k (BitVec.ofNat 32 g.val) (BitVec.ofNat 32 h.val)) S1x1.size
    (k0_off1_inb i k g h)).toLoadRect X5 (Shape.Idx.first (s := S1x1) (by decide))

/-- The eight weight tiles it loads: rows `512 k + 128 g …`, columns `128 h …` of the block. -/
def tileOf (arg4 : Memref sig .tc .vmem S13824x256 .fp8e4m3) (X4 : BufTy.Contents (Elt Ideal) arg4.view.ty)
    (k : Fin k0_t1_loop.trips) (g : Fin 4) (h : Fin 2) : Vec Ideal S128x128 .fp8e4m3 :=
  match h with
  | ⟨0, _⟩ => View.readAt (Elt Ideal) arg4.view (Rect.unit (s := S13824x256) (k0_off2 k (BitVec.ofNat 32 (128 * g.val))) S128x128.size
      (k0_off2_inb k g)).toLoadRect X4
  | ⟨1, _⟩ => View.readAt (Elt Ideal) arg4.view (Rect.unit (s := S13824x256) (k0_off3 k (BitVec.ofNat 32 (128 * g.val))) S128x128.size
      (k0_off3_inb k g)).toLoadRect X4

/-- The one store a trip makes, with what it loads named. -/
theorem tripL_eq (𝒱 : Variants) (c : Dev nD) (bd : Option 𝒱.V) (i : grid0.Coords) (arg2 : Memref sig .tc .vmem S1024x13824 .fp8e4m3) (harg2 : arg2.IsWhole) (arg3 : Memref sig .tc .vmem S1024x108 .f32) (harg3 : arg3.IsWhole)
  (arg4 : Memref sig .tc .vmem S13824x256 .fp8e4m3) (harg4 : arg4.IsWhole) (arg5 : Memref sig .tc .smem S108x206 .f32) (harg5 : arg5.IsWhole) (arg6 : Memref sig .tc .vmem S1x256 .bf16) (harg6 : arg6.IsWhole)
  (arg7 : Memref sig .tc .vmem S1024x256 .bf16) (harg7 : arg7.IsWhole) (arg8 : Memref sig .tc .vmem S1024x13824 .bf16) (harg8 : arg8.IsWhole) (arg9 : Memref sig .tc .vmem S1024x256 .f32) (harg9 : arg9.IsWhole)
  (arg1 : BitVec 32) (X_arg4 : BufTy.Contents (Elt Ideal) arg4.view.ty) (X_arg5 : BufTy.Contents (Elt Ideal) arg5.view.ty) (X_arg8 : BufTy.Contents (Elt Ideal) arg8.view.ty) (k : Fin k0_t1_loop.trips) (f_arg9 : BufTy.Contents (Elt Ideal) arg9.view.ty) :
    tripL_k0_t1 (F := Ideal) 𝒱 c bd i arg2 harg2 arg3 harg3 arg4 harg4 arg5 harg5 arg6 harg6 arg7 harg7 arg8 harg8 arg9 harg9 arg1 X_arg4 X_arg5 X_arg8 k f_arg9
      = [⟨Rect.unit ![0, 0] S1024x256.size inb_S1024x256_S1024x256_0_0,
          k0_pay4 (F := Ideal) (wBlock (scaleOf i arg5 X_arg5 k) (tileOf arg4 X_arg4 k))
            (View.readAt (Elt Ideal) arg8.view (Rect.unit (s := S1024x13824) (k0_off4 k) S1024x512.size (k0_off4_inb k)).toLoadRect X_arg8)
            (View.readAt (Elt Ideal) arg9.view (Rect.unit ![0, 0] S1024x256.size inb_S1024x256_S1024x256_0_0).toLoadRect f_arg9)
            (constant S1024x256 .f32 0x00000000#32)⟩] := by
  unfold tripL_k0_t1 trip_k0_t1
  dsimp only
  sl_unfold_words
  unfold wBlock
  congr 4

/-- The scale it loads for tile `(g, h)` is the block's scale array at row `4 k + g`, column `2 j + h`. -/
theorem scaleOf_eq (i : grid0.Coords) (arg5 : Memref sig .tc .smem S108x206 .f32) (X5 : BufTy.Contents (Elt Ideal) arg5.view.ty)
    (k : Fin k0_t1_loop.trips) (g : Fin 4) (h : Fin 2) (p : Fin 108) (q : Fin 206) (hp : p.val = 4 * k.val + g.val)
    (hq : q.val = 2 * (i 1).val + h.val) :
    scaleOf i arg5 X5 k g h = arg5.view.read (Elt Ideal) X5 (ix2 p q) := by
  unfold scaleOf
  rw [View.readAt_eq_ld]
  refine View.ld_unit_apply_of _ _ _ _ _ _ fun a => ?_
  refine Eq.trans ?_ (congrArg (· + _) (congrFun (k0_off1_eq i k g h) a).symm)
  match a with
  | ⟨0, _⟩ => show p.val = (4 * k.val + g.val) + 0; omega
  | ⟨1, _⟩ => show q.val = (2 * (i 1).val + h.val) + 0; omega

/-- The tile `(g, h)` it loads, entry by entry. -/
theorem tileOf_apply (arg4 : Memref sig .tc .vmem S13824x256 .fp8e4m3) (X4 : BufTy.Contents (Elt Ideal) arg4.view.ty)
    (k : Fin k0_t1_loop.trips) (g : Fin 4) (h : Fin 2) (a b : Fin 128) (p : Fin 13824) (q : Fin 256)
    (hp : p.val = 512 * k.val + (128 * g.val + a.val)) (hq : q.val = 128 * h.val + b.val) :
    tileOf arg4 X4 k g h (ix2 a b) = arg4.view.read (Elt Ideal) X4 (ix2 p q) := by
  match h, hq with
  | ⟨0, _⟩, hq =>
    unfold tileOf
    dsimp only
    rw [View.readAt_eq_ld]
    refine View.ld_unit_apply_of _ _ _ _ _ _ fun d => ?_
    refine Eq.trans ?_ (congrArg (· + _) (congrFun (k0_off2_eq k g) d).symm)
    match d with
    | ⟨0, _⟩ => show p.val = (512 * k.val + 128 * g.val) + a.val; omega
    | ⟨1, _⟩ => show q.val = 0 + b.val; dsimp only at hq; omega
  | ⟨1, _⟩, hq =>
    unfold tileOf
    dsimp only
    rw [View.readAt_eq_ld]
    refine View.ld_unit_apply_of _ _ _ _ _ _ fun d => ?_
    refine Eq.trans ?_ (congrArg (· + _) (congrFun (k0_off3_eq k g) d).symm)
    match d with
    | ⟨0, _⟩ => show p.val = (512 * k.val + 128 * g.val) + a.val; omega
    | ⟨1, _⟩ => show q.val = 128 + b.val; dsimp only at hq; omega

/-- Term `q` of the contraction at entry `(r, n)` of column block `j`: the widened activation times the weight widened by
    the scale of its 128 x 128 tile (zero past the contracted extent). -/
def term (j : Fin 103) (xb : Vec Ideal S1024x13824 .bf16) (w : Vec Ideal S13824x256 .fp8e4m3) (ws : Vec Ideal S108x206 .f32)
    (r : Fin 1024) (n : Fin 256) (q : ℕ) : EReal :=
  if h : q < 13824 then
    xb (ix2 r ⟨q, h⟩) * (w (ix2 ⟨q, h⟩ n) * ws (ix2 ⟨q / 128, by omega⟩ ⟨2 * j.val + n.val / 128, by omega⟩))
  else 0

/-- The widened activations trip `k` loads: columns `512 k …`. -/
theorem xload_apply (arg8 : Memref sig .tc .vmem S1024x13824 .bf16) (X8 : BufTy.Contents (Elt Ideal) arg8.view.ty)
    (k : Fin k0_t1_loop.trips) (r : Fin 1024) (kk : Fin 512) (p : Fin 13824) (hp : p.val = 512 * k.val + kk.val) :
    View.ld (arg8.view.read (Elt Ideal) X8) (Rect.unit (s := S1024x13824) (k0_off4 k) S1024x512.size (k0_off4_inb k)) (ix2 r kk)
      = arg8.view.read (Elt Ideal) X8 (ix2 r p) := by
  refine View.ld_unit_apply_of _ _ _ _ _ _ fun d => ?_
  refine Eq.trans ?_ (congrArg (· + _) (congrFun (k0_off4_eq k) d).symm)
  match d with
  | ⟨0, _⟩ => show r.val = 0 + r.val; omega
  | ⟨1, _⟩ => show p.val = 512 * k.val + kk.val; exact hp

/-- The widened weight block of trip `k`: entry `(kk, n)` is the weight of row `512 k + kk` times its tile's scale. -/
theorem wload_apply (i : grid0.Coords) (arg4 : Memref sig .tc .vmem S13824x256 .fp8e4m3) (X4 : BufTy.Contents (Elt Ideal) arg4.view.ty)
    (arg5 : Memref sig .tc .smem S108x206 .f32) (X5 : BufTy.Contents (Elt Ideal) arg5.view.ty)
    (k : Fin k0_t1_loop.trips) (j : Fin 103) (hj : j.val = (i 1).val) (kk : Fin 512) (n : Fin 256)
    {h1 : 512 * k.val + kk.val < 13824} {h2 : (512 * k.val + kk.val) / 128 < 108} {h3 : 2 * j.val + n.val / 128 < 206} :
    wBlock (scaleOf i arg5 X5 k) (tileOf arg4 X4 k) (ix2 kk n)
      = arg4.view.read (Elt Ideal) X4 (ix2 ⟨512 * k.val + kk.val, h1⟩ n)
        * arg5.view.read (Elt Ideal) X5 (ix2 ⟨(512 * k.val + kk.val) / 128, h2⟩ ⟨2 * j.val + n.val / 128, h3⟩) := by
  have hk : k.val < 27 := lt_of_lt_of_eq k.isLt trips_eq
  have hjj := j.isLt
  refine (wBlock_apply _ _ (fun a b => if h : a < 512 ∧ b < 256 then arg4.view.read (Elt Ideal) X4
      (ix2 ⟨512 * k.val + a, by omega⟩ ⟨b, h.2⟩) * arg5.view.read (Elt Ideal) X5
      (ix2 ⟨(512 * k.val + a) / 128, by omega⟩ ⟨2 * j.val + b / 128, by omega⟩) else 0) (fun g h a b => ?_) kk n).trans
    (dif_pos (⟨kk.isLt, n.isLt⟩ : kk.val < 512 ∧ n.val < 256))
  have hg := g.isLt
  have hh := h.isLt
  have ha := a.isLt
  have hb := b.isLt
  refine Eq.trans ?_ (dif_pos (⟨by omega, by omega⟩ : 128 * g.val + a.val < 512 ∧ 128 * h.val + b.val < 256)).symm
  exact congrArg₂ (· * ·) (tileOf_apply arg4 X4 k g h a b _ _ rfl rfl)
    (scaleOf_eq i arg5 X5 k g h _ _ (by show (512 * k.val + (128 * g.val + a.val)) / 128 = _; omega)
      (by show 2 * j.val + (128 * h.val + b.val) / 128 = _; omega))

end Cert.KernelIdeal.Hand

end
-- ==== Proof.Loop.lean ====
/-
  The whole loop over the contraction: what the accumulator holds after any number of trips — what it held before plus
  the first 512 K terms of the contraction.
-/
module

public import proofs.«01_k».proof.Proof.Trip
public import Idealize.ShloMosaic.Lib.VecWindow

@[expose] public section

set_option maxRecDepth 16384

noncomputable section

namespace Cert.KernelIdeal.Hand

open Idealize.ShloMosaic Idealize.ShloMosaic.TcCoe Idealize.ShloMosaic.Tactic Idealize.SL.Sem
open Cert.KernelIdeal.Gen

/-- A store through the whole accumulator leaves the stored block in it. -/
theorem store_whole (arg9 : Memref sig .tc .vmem S1024x256 .f32) (f : BufTy.Contents (Elt Ideal) arg9.view.ty)
    (w : Vec Ideal S1024x256 .f32) :
    arg9.view.read (Elt Ideal) (arg9.view.writes (Elt Ideal) f
      [⟨Rect.unit ![0, 0] S1024x256.size inb_S1024x256_S1024x256_0_0, w⟩]) = w := by
  exact View.read_writes_full arg9.view f inb_S1024x256_S1024x256_0_0 w []

/-- A load of the whole accumulator reads it. -/
theorem load_whole (arg9 : Memref sig .tc .vmem S1024x256 .f32) (f : BufTy.Contents (Elt Ideal) arg9.view.ty) :
    View.readAt (Elt Ideal) arg9.view (Rect.unit ![0, 0] S1024x256.size inb_S1024x256_S1024x256_0_0).toLoadRect f
      = arg9.view.read (Elt Ideal) f := by
  rw [View.readAt_eq_ld, View.ld_unit_zero hz]

/-- One trip: the accumulator gains terms `512 k … 512 k + 511`. -/
theorem trip_apply (𝒱 : Variants) (c : Dev nD) (bd : Option 𝒱.V) (i : grid0.Coords) (arg2 : Memref sig .tc .vmem S1024x13824 .fp8e4m3) (harg2 : arg2.IsWhole) (arg3 : Memref sig .tc .vmem S1024x108 .f32) (harg3 : arg3.IsWhole)
  (arg4 : Memref sig .tc .vmem S13824x256 .fp8e4m3) (harg4 : arg4.IsWhole) (arg5 : Memref sig .tc .smem S108x206 .f32) (harg5 : arg5.IsWhole) (arg6 : Memref sig .tc .vmem S1x256 .bf16) (harg6 : arg6.IsWhole)
  (arg7 : Memref sig .tc .vmem S1024x256 .bf16) (harg7 : arg7.IsWhole) (arg8 : Memref sig .tc .vmem S1024x13824 .bf16) (harg8 : arg8.IsWhole) (arg9 : Memref sig .tc .vmem S1024x256 .f32) (harg9 : arg9.IsWhole)
  (arg1 : BitVec 32) (X_arg4 : BufTy.Contents (Elt Ideal) arg4.view.ty) (X_arg5 : BufTy.Contents (Elt Ideal) arg5.view.ty) (X_arg8 : BufTy.Contents (Elt Ideal) arg8.view.ty) (k : Fin k0_t1_loop.trips) (f_arg9 : BufTy.Contents (Elt Ideal) arg9.view.ty)
  (j : Fin 103) (hj : j.val = (i 1).val) (r : Fin 1024) (n : Fin 256) :
    arg9.view.read (Elt Ideal) (arg9.view.writes (Elt Ideal) f_arg9 (tripL_k0_t1 (F := Ideal) 𝒱 c bd i arg2 harg2 arg3 harg3 arg4 harg4 arg5 harg5 arg6 harg6 arg7 harg7 arg8 harg8 arg9 harg9 arg1 X_arg4 X_arg5 X_arg8 k f_arg9)) (ix2 r n)
      = arg9.view.read (Elt Ideal) f_arg9 (ix2 r n)
        + ∑ q ∈ Finset.range 512, term j (arg8.view.read (Elt Ideal) X_arg8) (arg4.view.read (Elt Ideal) X_arg4)
            (arg5.view.read (Elt Ideal) X_arg5) r n (512 * k.val + q) := by
  have hk : k.val < 27 := lt_of_lt_of_eq k.isLt trips_eq
  rw [tripL_eq, store_whole, pay4_apply, load_whole,
    ← Fin.sum_univ_eq_sum_range (fun q => term j (arg8.view.read (Elt Ideal) X_arg8) (arg4.view.read (Elt Ideal) X_arg4)
            (arg5.view.read (Elt Ideal) X_arg5) r n (512 * k.val + q)) 512]
  refine congrArg (_ + ·) (Finset.sum_congr rfl fun kk _ => ?_)
  have hkk := kk.isLt
  refine Eq.trans ?_ (dif_pos (show 512 * k.val + kk.val < 13824 by omega)).symm
  exact congrArg₂ (· * ·) (xload_apply arg8 X_arg8 k r kk _ rfl) (wload_apply i arg4 X_arg4 arg5 X_arg5 k j hj kk n)

/-- The loop: after `K` trips the accumulator has gained terms `0 … 512 K - 1`. -/
theorem loop_apply (𝒱 : Variants) (c : Dev nD) (bd : Option 𝒱.V) (i : grid0.Coords) (arg2 : Memref sig .tc .vmem S1024x13824 .fp8e4m3) (harg2 : arg2.IsWhole) (arg3 : Memref sig .tc .vmem S1024x108 .f32) (harg3 : arg3.IsWhole)
  (arg4 : Memref sig .tc .vmem S13824x256 .fp8e4m3) (harg4 : arg4.IsWhole) (arg5 : Memref sig .tc .smem S108x206 .f32) (harg5 : arg5.IsWhole) (arg6 : Memref sig .tc .vmem S1x256 .bf16) (harg6 : arg6.IsWhole)
  (arg7 : Memref sig .tc .vmem S1024x256 .bf16) (harg7 : arg7.IsWhole) (arg8 : Memref sig .tc .vmem S1024x13824 .bf16) (harg8 : arg8.IsWhole) (arg9 : Memref sig .tc .vmem S1024x256 .f32) (harg9 : arg9.IsWhole)
  (arg1 : BitVec 32) (X_arg4 : BufTy.Contents (Elt Ideal) arg4.view.ty) (X_arg5 : BufTy.Contents (Elt Ideal) arg5.view.ty) (X_arg8 : BufTy.Contents (Elt Ideal) arg8.view.ty) (G_arg9 : BufTy.Contents (Elt Ideal) arg9.view.ty)
  (j : Fin 103) (hj : j.val = (i 1).val) (r : Fin 1024) (n : Fin 256) : ∀ K : ℕ, K ≤ 27 →
    arg9.view.read (Elt Ideal) (arg9.view.writes (Elt Ideal) G_arg9 (pb_k0_t1 (F := Ideal) 𝒱 c bd i arg2 harg2 arg3 harg3 arg4 harg4 arg5 harg5 arg6 harg6 arg7 harg7 arg8 harg8 arg9 harg9 arg1 X_arg4 X_arg5 X_arg8 G_arg9 K)) (ix2 r n)
      = arg9.view.read (Elt Ideal) G_arg9 (ix2 r n)
        + ∑ q ∈ Finset.range (512 * K), term j (arg8.view.read (Elt Ideal) X_arg8) (arg4.view.read (Elt Ideal) X_arg4)
            (arg5.view.read (Elt Ideal) X_arg5) r n q
  | 0, _ => by
    show arg9.view.read (Elt Ideal) G_arg9 (ix2 r n) = _
    rw [Nat.mul_zero, Finset.sum_range_zero, add_zero]
  | K + 1, hK => by
    have hlt : K < k0_t1_loop.trips := by rw [trips_eq]; omega
    have e := pb_k0_t1_succ (F := Ideal) 𝒱 c bd i arg2 harg2 arg3 harg3 arg4 harg4 arg5 harg5 arg6 harg6 arg7 harg7 arg8 harg8 arg9 harg9 arg1 X_arg4 X_arg5 X_arg8 G_arg9 ⟨K, hlt⟩
    dsimp only at e
    rw [e, View.writes_append, trip_apply 𝒱 c bd i arg2 harg2 arg3 harg3 arg4 harg4 arg5 harg5 arg6 harg6 arg7 harg7 arg8 harg8 arg9 harg9 arg1 X_arg4 X_arg5 X_arg8 ⟨K, hlt⟩ _ j hj r n,
      loop_apply 𝒱 c bd i arg2 harg2 arg3 harg3 arg4 harg4 arg5 harg5 arg6 harg6 arg7 harg7 arg8 harg8 arg9 harg9 arg1 X_arg4 X_arg5 X_arg8 G_arg9 j hj r n K (by omega), Nat.mul_succ, Finset.sum_range_add, add_assoc]

end Cert.KernelIdeal.Hand

end
-- ==== Proof.Block.lean ====
/-
  What one point of the grid leaves in its output block and in the scratch the kernel carries from point to point: the
  scratch is the row block's activations times their scales, and the block is the whole contraction plus the bias.
-/
module

public import proofs.«01_k».proof.Proof.Gen.KernelIdeal.Frame
public import proofs.«01_k».proof.Proof.Loop

@[expose] public section

set_option maxRecDepth 16384

noncomputable section

namespace Cert.KernelIdeal.Hand

open Idealize.ShloMosaic Idealize.ShloMosaic.TcCoe Idealize.ShloMosaic.Tactic Idealize.SL.Sem
open Cert.KernelIdeal.Gen

/-- The activations of a row block, each times the scale of its group of 128 columns. -/
def widen (x0 : Vec Ideal S1024x13824 .fp8e4m3) (x1 : Vec Ideal S1024x108 .f32) : Vec Ideal S1024x13824 .bf16 :=
  fun y => x0 y * x1 (ix2 (y 0) ⟨(y 1).val / 128, Nat.div_lt_of_lt_mul (y 1).isLt⟩)

/-- One of the 108 stores that widen a row block: columns `128 g …` get their share of `widen`. -/
theorem widen_piece (arg2 : Memref sig .tc .vmem S1024x13824 .fp8e4m3) (harg2 : arg2.IsWhole) (arg3 : Memref sig .tc .vmem S1024x108 .f32) (harg3 : arg3.IsWhole)
    (x0 : Vec Ideal S1024x13824 .fp8e4m3) (x1 : Vec Ideal S1024x108 .f32) (g o : ℕ) (ho : o = 128 * g)
    (inb1 : ∀ a, (![0, g] : Fin 2 → ℕ) a + S1024x1.size a ≤ S1024x108.size a)
    (inb2 : ∀ a, (![0, o] : Fin 2 → ℕ) a + S1024x128.size a ≤ S1024x13824.size a) (x : S1024x128.Idx) :
    k0_pay2 (View.readAt (Elt Ideal) arg3.view (Rect.unit (s := S1024x108) ![0, g] S1024x1.size inb1).toLoadRect (harg3.unread x1))
      (View.readAt (Elt Ideal) arg2.view (Rect.unit (s := S1024x13824) ![0, o] S1024x128.size inb2).toLoadRect (harg2.unread x0)) x
      = widen x0 x1 ((Rect.unit (s := S1024x13824) ![0, o] S1024x128.size inb2).emb x) := by
  obtain ⟨r, c, rfl⟩ : ∃ (r : Fin 1024) (c : Fin 128), x = ix2 r c := ⟨x 0, x 1, funext fun a => by fin_cases a <;> rfl⟩
  have hc := c.isLt
  rw [pay2_apply, View.readAt_eq_ld, View.readAt_eq_ld, harg2.read_unread, harg3.read_unread]
  unfold widen
  refine congrArg₂ (· * ·) (congrArg x0 rfl) (congrArg x1 (funext fun a => ?_))
  match a with
  | ⟨0, _⟩ => rfl
  | ⟨1, _⟩ => exact Fin.ext (by show g + 1 * 0 = (o + 1 * c.val) / 128; omega)

/-- All 108 stores of the point that widens: each is its share of `widen`. -/
theorem widen_pieces (c : Dev nD) (i : grid0.Coords) (arg2 : Memref sig .tc .vmem S1024x13824 .fp8e4m3) (harg2 : arg2.IsWhole) (arg3 : Memref sig .tc .vmem S1024x108 .f32) (harg3 : arg3.IsWhole) (arg4 : Memref sig .tc .vmem S13824x256 .fp8e4m3) (harg4 : arg4.IsWhole) (arg5 : Memref sig .tc .smem S108x206 .f32) (harg5 : arg5.IsWhole) (arg6 : Memref sig .tc .vmem S1x256 .bf16) (harg6 : arg6.IsWhole) (arg7 : Memref sig .tc .vmem S1024x256 .bf16) (harg7 : arg7.IsWhole) (arg8 : Memref sig .tc .vmem S1024x13824 .bf16) (harg8 : arg8.IsWhole) (arg9 : Memref sig .tc .vmem S1024x256 .f32) (harg9 : arg9.IsWhole) (hc0 : cond0_0 i)
    (x0 : Vec Ideal S1024x13824 .fp8e4m3) (x1 : Vec Ideal S1024x108 .f32) (x2 : Vec Ideal S13824x256 .fp8e4m3) (x3 : Vec Ideal S108x206 .f32) (x4 : Vec Ideal S1x256 .bf16) :
    ∀ p ∈ (kernelRun0_A (F := Ideal) c i arg2 harg2 arg3 harg3 arg4 harg4 arg5 harg5 arg6 harg6 arg7 harg7 arg8 harg8 arg9 harg9 hc0 x0 x1 x2 x3 x4).2.1, ∀ x : p.1.shape.Idx, p.2 x = widen x0 x1 (p.1.emb x) := by
  unfold kernelRun0_A
  dsimp only
  sl_unfold_words
  repeat' refine List.forall_mem_cons.2 ⟨fun x => widen_piece arg2 harg2 arg3 harg3 x0 x1 _ _ (by rfl) _ _ x, ?_⟩
  exact fun _ h => absurd h List.not_mem_nil

/-- A point at the start of a row block leaves its widened activations in the scratch. -/
theorem sout_A (c : Dev nD) (i : grid0.Coords) (arg2 : Memref sig .tc .vmem S1024x13824 .fp8e4m3) (harg2 : arg2.IsWhole) (arg3 : Memref sig .tc .vmem S1024x108 .f32) (harg3 : arg3.IsWhole) (arg4 : Memref sig .tc .vmem S13824x256 .fp8e4m3) (harg4 : arg4.IsWhole) (arg5 : Memref sig .tc .smem S108x206 .f32) (harg5 : arg5.IsWhole) (arg6 : Memref sig .tc .vmem S1x256 .bf16) (harg6 : arg6.IsWhole) (arg7 : Memref sig .tc .vmem S1024x256 .bf16) (harg7 : arg7.IsWhole) (arg8 : Memref sig .tc .vmem S1024x13824 .bf16) (harg8 : arg8.IsWhole) (arg9 : Memref sig .tc .vmem S1024x256 .f32) (harg9 : arg9.IsWhole) (hc0 : cond0_0 i)
    (x0 : Vec Ideal S1024x13824 .fp8e4m3) (x1 : Vec Ideal S1024x108 .f32) (x2 : Vec Ideal S13824x256 .fp8e4m3) (x3 : Vec Ideal S108x206 .f32) (x4 : Vec Ideal S1x256 .bf16) :
    sout0_A_0 (F := Ideal) c i arg2 harg2 arg3 harg3 arg4 harg4 arg5 harg5 arg6 harg6 arg7 harg7 arg8 harg8 arg9 harg9 hc0 x0 x1 x2 x3 x4 = widen x0 x1 :=
  funext fun y => View.read_writes_apply_of_pieces _ _ _ _ (widen_pieces c i arg2 harg2 arg3 harg3 arg4 harg4 arg5 harg5 arg6 harg6 arg7 harg7 arg8 harg8 arg9 harg9 hc0 x0 x1 x2 x3 x4) y (scover0_A_0 c i arg2 harg2 arg3 harg3 arg4 harg4 arg5 harg5 arg6 harg6 arg7 harg7 arg8 harg8 arg9 harg9 hc0 x0 x1 x2 x3 x4 y)

/-- The block value: the whole contraction plus the bias, over a widened row block `xb`. -/
def blockVal (j : Fin 103) (xb : Vec Ideal S1024x13824 .bf16) (w : Vec Ideal S13824x256 .fp8e4m3) (ws : Vec Ideal S108x206 .f32)
    (bias : Vec Ideal S1x256 .bf16) (r : Fin 1024) (n : Fin 256) : EReal :=
  (∑ q ∈ Finset.range 13824, term j xb w ws r n q) + bias (ix2 0 n)

/-- The value a point stores, when the scratch it reads holds `xb`. -/
theorem stored_apply (𝒱 : Variants) (c : Dev nD) (bd : Option 𝒱.V) (i : grid0.Coords) (arg2 : Memref sig .tc .vmem S1024x13824 .fp8e4m3) (harg2 : arg2.IsWhole) (arg3 : Memref sig .tc .vmem S1024x108 .f32) (harg3 : arg3.IsWhole) (arg4 : Memref sig .tc .vmem S13824x256 .fp8e4m3) (harg4 : arg4.IsWhole) (arg5 : Memref sig .tc .smem S108x206 .f32) (harg5 : arg5.IsWhole) (arg6 : Memref sig .tc .vmem S1x256 .bf16) (harg6 : arg6.IsWhole) (arg7 : Memref sig .tc .vmem S1024x256 .bf16) (harg7 : arg7.IsWhole) (arg8 : Memref sig .tc .vmem S1024x13824 .bf16) (harg8 : arg8.IsWhole) (arg9 : Memref sig .tc .vmem S1024x256 .f32) (harg9 : arg9.IsWhole)
    (x2 : Vec Ideal S13824x256 .fp8e4m3) (x3 : Vec Ideal S108x206 .f32) (x4 : Vec Ideal S1x256 .bf16) (arg1 : BitVec 32)
    (X8 : BufTy.Contents (Elt Ideal) arg8.view.ty) (j : Fin 103) (hj : j.val = (i 1).val) (r : Fin 1024) (n : Fin 256) :
    k0_pay5 (F := Ideal) (arg9.view.readCov (Val := Elt Ideal) (pb_k0_t1 (F := Ideal) 𝒱 c bd i arg2 harg2 arg3 harg3 arg4 harg4 arg5 harg5 arg6 harg6 arg7 harg7 arg8 harg8 arg9 harg9 arg1 (harg4.unread x2) (harg5.unread x3) X8
        (arg9.view.writes (Elt Ideal) arg9.view.junk [⟨Rect.unit ![0, 0] S1024x256.size inb_S1024x256_S1024x256_0_0, k0_pay3 (F := Ideal)⟩]) (Scf.trips k0_t1_loop.lb k0_t1_loop.ub k0_t1_loop.st)
        ++ [⟨Rect.unit ![0, 0] S1024x256.size inb_S1024x256_S1024x256_0_0, k0_pay3 (F := Ideal)⟩])
          (Rect.unit ![0, 0] S1024x256.size inb_S1024x256_S1024x256_0_0).toLoadRect)
      (View.readAt (Elt Ideal) arg6.view (Rect.unit ![0, 0] S1x256.size inb_S1x256_S1x256_0_0).toLoadRect (harg6.unread x4)) (ix2 r n)
      = blockVal j (arg8.view.read (Elt Ideal) X8) x2 x3 x4 r n := by
  have e27 : Scf.trips k0_t1_loop.lb k0_t1_loop.ub k0_t1_loop.st = 27 := trips_eq
  rw [pay5_apply]
  unfold View.readCov blockVal
  rw [load_whole, View.writes_append, e27,
    loop_apply 𝒱 c bd i arg2 harg2 arg3 harg3 arg4 harg4 arg5 harg5 arg6 harg6 arg7 harg7 arg8 harg8 arg9 harg9 arg1 _ _ X8 _ j hj r n 27 le_rfl, store_whole, pay3_apply, zero_add, harg4.read_unread, harg5.read_unread]
  refine congrArg (_ + ·) ?_
  rw [View.readAt_eq_ld, View.ld_unit_zero hz, harg6.read_unread]

/-- A later point of a row block: its block is the contraction of what the scratch holds. -/
theorem out_B (c : Dev nD) (i : grid0.Coords) (arg2 : Memref sig .tc .vmem S1024x13824 .fp8e4m3) (harg2 : arg2.IsWhole) (arg3 : Memref sig .tc .vmem S1024x108 .f32) (harg3 : arg3.IsWhole) (arg4 : Memref sig .tc .vmem S13824x256 .fp8e4m3) (harg4 : arg4.IsWhole) (arg5 : Memref sig .tc .smem S108x206 .f32) (harg5 : arg5.IsWhole) (arg6 : Memref sig .tc .vmem S1x256 .bf16) (harg6 : arg6.IsWhole) (arg7 : Memref sig .tc .vmem S1024x256 .bf16) (harg7 : arg7.IsWhole) (arg8 : Memref sig .tc .vmem S1024x13824 .bf16) (harg8 : arg8.IsWhole) (arg9 : Memref sig .tc .vmem S1024x256 .f32) (harg9 : arg9.IsWhole) (hc0 : ¬cond0_0 i)
    (x0 : Vec Ideal S1024x13824 .fp8e4m3) (x1 : Vec Ideal S1024x108 .f32) (x2 : Vec Ideal S13824x256 .fp8e4m3) (x3 : Vec Ideal S108x206 .f32) (x4 : Vec Ideal S1x256 .bf16) (xs0 : Vec Ideal S1024x13824 .bf16) (j : Fin 103) (hj : j.val = (i 1).val) (r : Fin 1024) (n : Fin 256) :
    out0_B_5 (F := Ideal) c i arg2 harg2 arg3 harg3 arg4 harg4 arg5 harg5 arg6 harg6 arg7 harg7 arg8 harg8 arg9 harg9 hc0 x0 x1 x2 x3 x4 xs0 (ix2 r n) = blockVal j xs0 x2 x3 x4 r n := by
  unfold out0_B_5
  rw [View.read_writes_eq_canon _ _ _ (cover0_B_5 c i arg2 harg2 arg3 harg3 arg4 harg4 arg5 harg5 arg6 harg6 arg7 harg7 arg8 harg8 arg9 harg9 hc0 x0 x1 x2 x3 x4 xs0)]
  unfold kernelRun0_B
  dsimp only
  sl_unfold_words
  rw [View.canon_unit_zero hz]
  refine (stored_apply Variants.none c none i arg2 harg2 arg3 harg3 arg4 harg4 arg5 harg5 arg6 harg6 arg7 harg7 arg8 harg8 arg9 harg9 x2 x3 x4 _ (harg8.unread xs0) j hj r n).trans ?_
  rw [harg8.read_unread]

/-- The first point of a row block: its block is the contraction of the activations it has just widened. -/
theorem out_A (c : Dev nD) (i : grid0.Coords) (arg2 : Memref sig .tc .vmem S1024x13824 .fp8e4m3) (harg2 : arg2.IsWhole) (arg3 : Memref sig .tc .vmem S1024x108 .f32) (harg3 : arg3.IsWhole) (arg4 : Memref sig .tc .vmem S13824x256 .fp8e4m3) (harg4 : arg4.IsWhole) (arg5 : Memref sig .tc .smem S108x206 .f32) (harg5 : arg5.IsWhole) (arg6 : Memref sig .tc .vmem S1x256 .bf16) (harg6 : arg6.IsWhole) (arg7 : Memref sig .tc .vmem S1024x256 .bf16) (harg7 : arg7.IsWhole) (arg8 : Memref sig .tc .vmem S1024x13824 .bf16) (harg8 : arg8.IsWhole) (arg9 : Memref sig .tc .vmem S1024x256 .f32) (harg9 : arg9.IsWhole) (hc0 : cond0_0 i)
    (x0 : Vec Ideal S1024x13824 .fp8e4m3) (x1 : Vec Ideal S1024x108 .f32) (x2 : Vec Ideal S13824x256 .fp8e4m3) (x3 : Vec Ideal S108x206 .f32) (x4 : Vec Ideal S1x256 .bf16) (j : Fin 103) (hj : j.val = (i 1).val) (r : Fin 1024) (n : Fin 256) :
    out0_A_5 (F := Ideal) c i arg2 harg2 arg3 harg3 arg4 harg4 arg5 harg5 arg6 harg6 arg7 harg7 arg8 harg8 arg9 harg9 hc0 x0 x1 x2 x3 x4 (ix2 r n) = blockVal j (widen x0 x1) x2 x3 x4 r n := by
  have hw : arg8.view.read (Elt Ideal) (arg8.view.writes (Elt Ideal) arg8.view.junk (kernelRun0_A (F := Ideal) c i arg2 harg2 arg3 harg3 arg4 harg4 arg5 harg5 arg6 harg6 arg7 harg7 arg8 harg8 arg9 harg9 hc0 x0 x1 x2 x3 x4).2.1) = widen x0 x1 :=
    funext fun y => View.read_writes_apply_of_pieces _ _ _ _ (widen_pieces c i arg2 harg2 arg3 harg3 arg4 harg4 arg5 harg5 arg6 harg6 arg7 harg7 arg8 harg8 arg9 harg9 hc0 x0 x1 x2 x3 x4) y (scover0_A_0 c i arg2 harg2 arg3 harg3 arg4 harg4 arg5 harg5 arg6 harg6 arg7 harg7 arg8 harg8 arg9 harg9 hc0 x0 x1 x2 x3 x4 y)
  rw [← hw]
  unfold out0_A_5
  rw [View.read_writes_eq_canon _ _ _ (cover0_A_5 c i arg2 harg2 arg3 harg3 arg4 harg4 arg5 harg5 arg6 harg6 arg7 harg7 arg8 harg8 arg9 harg9 hc0 x0 x1 x2 x3 x4)]
  unfold kernelRun0_A
  dsimp only
  sl_unfold_words
  rw [View.canon_unit_zero hz]
  exact stored_apply Variants.none c none i arg2 harg2 arg3 harg3 arg4 harg4 arg5 harg5 arg6 harg6 arg7 harg7 arg8 harg8 arg9 harg9 x2 x3 x4 _ _ j hj r n

end Cert.KernelIdeal.Hand

end
-- ==== Proof.Array.lean ====
/-
  What the result array holds after the region: every block is written back once, at the point that computes it, so entry
  (R, N) is the whole contraction of row R with column N plus the bias.
-/
module

public import proofs.«01_k».proof.Proof.Block
public import Idealize.ShloMosaic.Lib.Pipeline.Value

@[expose] public section

set_option maxRecDepth 16384

noncomputable section

namespace Cert.KernelIdeal.Hand

open Idealize.ShloMosaic Idealize.ShloMosaic.TcCoe Idealize.ShloMosaic.Tactic Idealize.SL.Sem
open Cert.KernelIdeal.Gen
open Idealize.ShloMosaic.Pipeline (Dat)

variable (m : (ℓ : Loc nD τ sig) → Buf (Elt Ideal) ℓ)

/-! ## The grid's points: row block `t / 103`, column block `t % 103` -/

/-- The second grid coordinate of a point is its column block. -/
theorem coord1 : ∀ t : Fin cfg0.N, (grid0.coords t 1).val = t.val % 103 :=
  (by decide +kernel : ∀ t : Fin grid0.N, (grid0.coords t 1).val = t.val % 103)

/-- The activations' window is on the point's row block, all columns. -/
theorem idx0 : ∀ t : Fin cfg0.N, win0_0.index t (0 : Fin 2) = t.val / 103 ∧ win0_0.index t (1 : Fin 2) = 0 :=
  (by decide +kernel : ∀ t : Fin grid0.N, _)

/-- So is their scales' window. -/
theorem idx1 : ∀ t : Fin cfg0.N, win0_1.index t (0 : Fin 2) = t.val / 103 ∧ win0_1.index t (1 : Fin 2) = 0 :=
  (by decide +kernel : ∀ t : Fin grid0.N, _)

/-- The weights' window is on the point's column block, all rows. -/
theorem idx2 : ∀ t : Fin cfg0.N, win0_2.index t (0 : Fin 2) = 0 ∧ win0_2.index t (1 : Fin 2) = t.val % 103 :=
  (by decide +kernel : ∀ t : Fin grid0.N, _)

/-- The weight scales' window is the whole array. -/
theorem idx3 : ∀ t : Fin cfg0.N, win0_3.index t (0 : Fin 2) = 0 ∧ win0_3.index t (1 : Fin 2) = 0 :=
  (by decide +kernel : ∀ t : Fin grid0.N, _)

/-- The bias' window is on the point's column block. -/
theorem idx4 : ∀ t : Fin cfg0.N, win0_4.index t (0 : Fin 2) = 0 ∧ win0_4.index t (1 : Fin 2) = t.val % 103 :=
  (by decide +kernel : ∀ t : Fin grid0.N, _)

/-- The output's window is on the point's row block and column block. -/
theorem idx5 : ∀ t : Fin cfg0.N, win0_5.index t (0 : Fin 2) = t.val / 103 ∧ win0_5.index t (1 : Fin 2) = t.val % 103 :=
  (by decide +kernel : ∀ t : Fin grid0.N, _)

/-! ## The blocks of the operands -/

/-- Row block `b` of an array of 6144 rows. -/
def rowBlk {α : Type} {n : ℕ} (X : (⟨2, ![6144, n]⟩ : Shape).Idx → α) (b : Fin 6) : (⟨2, ![1024, n]⟩ : Shape).Idx → α :=
  fun y => X (ix2 ⟨1024 * b.val + (y 0).val, by have h : (y 0).val < 1024 := (y 0).isLt; have := b.isLt; omega⟩ (y 1))

/-- Column block `j` of an array of 26368 columns. -/
def colBlk {α : Type} {n : ℕ} (X : (⟨2, ![n, 26368]⟩ : Shape).Idx → α) (j : Fin 103) : (⟨2, ![n, 256]⟩ : Shape).Idx → α :=
  fun y => X (ix2 (y 0) ⟨256 * j.val + (y 1).val, by have h : (y 1).val < 256 := (y 1).isLt; have := j.isLt; omega⟩)

/-- The activations' block is a row block of their array. -/
theorem iblk0_eq (c : Dev nD) (t : Fin cfg0.N) (b : Fin 6) (hb : b.val = t.val / 103) :
    (iblk m c 0 t : Vec Ideal S1024x13824 .fp8e4m3) = rowBlk (n := 13824) (V m c main_v0) b := by
  obtain ⟨h0, h1⟩ := idx0 t
  funext y
  unfold iblk rowBlk
  rw [View.read_apply]
  show V m c main_v0 _ = V m c main_v0 _
  refine congrArg (V m c main_v0) (funext fun a => Fin.ext ?_)
  match a with
  | ⟨0, _⟩ => show win0_0.index t (0 : Fin 2) * 1024 + 1 * (y 0).val = 1024 * b.val + (y 0).val; rw [h0]; omega
  | ⟨1, _⟩ => show win0_0.index t (1 : Fin 2) * 13824 + 1 * (y 1).val = (y 1).val; rw [h1]; omega

/-- The activations' scales' block is the same row block of theirs. -/
theorem iblk1_eq (c : Dev nD) (t : Fin cfg0.N) (b : Fin 6) (hb : b.val = t.val / 103) :
    (iblk m c 1 t : Vec Ideal S1024x108 .f32) = rowBlk (n := 108) (V m c main_v1) b := by
  obtain ⟨h0, h1⟩ := idx1 t
  funext y
  unfold iblk rowBlk
  rw [View.read_apply]
  show V m c main_v1 _ = V m c main_v1 _
  refine congrArg (V m c main_v1) (funext fun a => Fin.ext ?_)
  match a with
  | ⟨0, _⟩ => show win0_1.index t (0 : Fin 2) * 1024 + 1 * (y 0).val = 1024 * b.val + (y 0).val; rw [h0]; omega
  | ⟨1, _⟩ => show win0_1.index t (1 : Fin 2) * 108 + 1 * (y 1).val = (y 1).val; rw [h1]; omega

/-- The weights' block is a column block of their array. -/
theorem iblk2_eq (c : Dev nD) (t : Fin cfg0.N) (j : Fin 103) (hj : j.val = t.val % 103) :
    (iblk m c 2 t : Vec Ideal S13824x256 .fp8e4m3) = colBlk (n := 13824) (V m c main_arg2) j := by
  obtain ⟨h0, h1⟩ := idx2 t
  funext y
  unfold iblk colBlk
  rw [View.read_apply]
  show V m c main_arg2 _ = V m c main_arg2 _
  refine congrArg (V m c main_arg2) (funext fun a => Fin.ext ?_)
  match a with
  | ⟨0, _⟩ => show win0_2.index t (0 : Fin 2) * 13824 + 1 * (y 0).val = (y 0).val; rw [h0]; omega
  | ⟨1, _⟩ => show win0_2.index t (1 : Fin 2) * 256 + 1 * (y 1).val = 256 * j.val + (y 1).val; rw [h1]; omega

/-- The weight scales' block is their whole array. -/
theorem iblk3_eq (c : Dev nD) (t : Fin cfg0.N) :
    (iblk m c 3 t : Vec Ideal S108x206 .f32) = V m c main_arg3 := by
  obtain ⟨h0, h1⟩ := idx3 t
  funext y
  unfold iblk
  rw [View.read_apply]
  show V m c main_arg3 _ = V m c main_arg3 _
  refine congrArg (V m c main_arg3) (funext fun a => Fin.ext ?_)
  match a with
  | ⟨0, _⟩ => show win0_3.index t (0 : Fin 2) * 108 + 1 * (y 0).val = (y 0).val; rw [h0]; omega
  | ⟨1, _⟩ => show win0_3.index t (1 : Fin 2) * 206 + 1 * (y 1).val = (y 1).val; rw [h1]; omega

/-- The bias' block is the same column block of the bias row. -/
theorem iblk4_eq (c : Dev nD) (t : Fin cfg0.N) (j : Fin 103) (hj : j.val = t.val % 103) :
    (iblk m c 4 t : Vec Ideal S1x256 .bf16) = colBlk (n := 1) (V m c main_v2) j := by
  obtain ⟨h0, h1⟩ := idx4 t
  funext y
  unfold iblk colBlk
  rw [View.read_apply]
  show V m c main_v2 _ = V m c main_v2 _
  refine congrArg (V m c main_v2) (funext fun a => Fin.ext ?_)
  match a with
  | ⟨0, _⟩ => show win0_4.index t (0 : Fin 2) * 1 + 1 * (y 0).val = (y 0).val; rw [h0]; omega
  | ⟨1, _⟩ => show win0_4.index t (1 : Fin 2) * 256 + 1 * (y 1).val = 256 * j.val + (y 1).val; rw [h1]; omega

/-! ## The scratch between points, and the block each point computes -/

/-- After any point of row block `b` the scratch holds that row block widened. -/
theorem scratch_eq (c : Dev nD) : ∀ (n : ℕ) (hn : n < cfg0.N) (b : Fin 6) (_ : b.val = n / 103),
    (outsAt0 m c n hn).2 = widen (rowBlk (n := 13824) (V m c main_v0) b) (rowBlk (n := 108) (V m c main_v1) b)
  | n, hn, b, hb => by
    by_cases h0 : n % 103 = 0
    · have e := outsAt0_A m c ⟨n, hn⟩ h0
      dsimp only at e
      rw [e]
      dsimp only
      rw [sout_A, iblk0_eq m c ⟨n, hn⟩ b hb, iblk1_eq m c ⟨n, hn⟩ b hb]
    · have e := outsAt0_B m c ⟨n, hn⟩ h0
      dsimp only at e
      rw [e]
      dsimp only
      unfold sout0_B_0
      exact scratch_eq c (n - 1) _ b (by omega)
  termination_by n => n
  decreasing_by exact Nat.sub_lt (Nat.pos_of_ne_zero fun h => h0 (by rw [h])) Nat.one_pos

/-- The block point `t` computes, of row block `b` and column block `j`. -/
theorem block_apply (c : Dev nD) (t : Fin cfg0.N) (b : Fin 6) (hb : b.val = t.val / 103) (j : Fin 103) (hj : j.val = t.val % 103)
    (r : Fin 1024) (n : Fin 256) :
    (outsAt0 m c t.val t.isLt).1 (ix2 r n)
      = blockVal j (widen (rowBlk (n := 13824) (V m c main_v0) b) (rowBlk (n := 108) (V m c main_v1) b))
          (colBlk (n := 13824) (V m c main_arg2) j) (V m c main_arg3) (colBlk (n := 1) (V m c main_v2) j) r n := by
  have hj' : j.val = (grid0.coords t 1).val := hj.trans (coord1 t).symm
  by_cases h0 : t.val % 103 = 0
  · rw [outsAt0_A m c t h0]
    dsimp only
    rw [out_A c _ _ _ _ _ _ _ _ _ _ _ _ _ _ _ _ _ _ _ _ _ _ _ j hj', iblk0_eq m c t b hb, iblk1_eq m c t b hb, iblk2_eq m c t j hj,
      iblk3_eq m c t, iblk4_eq m c t j hj]
  · rw [outsAt0_B m c t h0]
    dsimp only
    rw [out_B c _ _ _ _ _ _ _ _ _ _ _ _ _ _ _ _ _ _ _ _ _ _ _ _ j hj', scratch_eq m c (t.val - 1) _ b (by omega), iblk2_eq m c t j hj,
      iblk3_eq m c t, iblk4_eq m c t j hj]

/-! ## The array -/

/-- The whole product plus the bias: the array the kernel computes, of its arguments. -/
def arrVal (X : Vec Ideal S6144x13824 .fp8e4m3) (XS : Vec Ideal S6144x108 .f32) (W : Vec Ideal S13824x26368 .fp8e4m3)
    (WS : Vec Ideal S108x206 .f32) (B : Vec Ideal S1x26368 .bf16) (R : Fin 6144) (N : Fin 26368) : EReal :=
  (∑ k : Fin 13824, X (ix2 R k) * XS (ix2 R ⟨k.val / 128, by omega⟩)
      * (W (ix2 k N) * WS (ix2 ⟨k.val / 128, by omega⟩ ⟨N.val / 128, by omega⟩))) + B (ix2 0 N)

/-- The block value of a row block and a column block is the array's entry there. -/
theorem blockVal_eq (X : Vec Ideal S6144x13824 .fp8e4m3) (XS : Vec Ideal S6144x108 .f32) (W : Vec Ideal S13824x26368 .fp8e4m3)
    (WS : Vec Ideal S108x206 .f32) (B : Vec Ideal S1x26368 .bf16) (b : Fin 6) (j : Fin 103) (r : Fin 1024) (n : Fin 256)
    (R : Fin 6144) (N : Fin 26368) (hR : R.val = 1024 * b.val + r.val) (hN : N.val = 256 * j.val + n.val) :
    blockVal j (widen (rowBlk (n := 13824) X b) (rowBlk (n := 108) XS b)) (colBlk (n := 13824) W j) WS (colBlk (n := 1) B j) r n
      = arrVal X XS W WS B R N := by
  unfold blockVal arrVal
  have h1 : 1024 * b.val + r.val < 6144 := by omega
  have h2 : 256 * j.val + n.val < 26368 := by omega
  obtain rfl : R = ⟨1024 * b.val + r.val, h1⟩ := Fin.ext hR
  obtain rfl : N = ⟨256 * j.val + n.val, h2⟩ := Fin.ext hN
  refine congrArg₂ (· + ·) ?_ rfl
  rw [Finset.sum_range]
  refine Finset.sum_congr rfl fun k _ => ?_
  unfold term
  rw [dif_pos k.isLt]
  have hd : 2 * j.val + n.val / 128 = (256 * j.val + n.val) / 128 := by omega
  refine congrArg₂ (· * ·) rfl (congrArg₂ (· * ·) rfl (congrArg WS (funext fun a => ?_)))
  match a with
  | ⟨0, _⟩ => rfl
  | ⟨1, _⟩ => exact Fin.ext hd

/-- The array after the region, as a function of the arrays the region finds. -/
def result (c : Dev nD) : Buf (Elt Ideal) ((c : Thread nD τ).loc main_v3) := fun i =>
  arrVal (V m c main_v0) (V m c main_v1) (V m c main_arg2) (V m c main_arg3) (V m c main_v2) (i 0) (i 1)

/-- What a point writes back is its block of `result`. -/
theorem flushed5_eq (c : Dev nD) (t : Fin cfg0.N) :
    (dats m 0 c).flushed 5 t = ((cfg0.win 5).blk t).view.read (Elt Ideal) (result m c) := by
  have ht : t.val < 618 := lt_of_lt_of_eq t.isLt (show cfg0.N = 618 from N_0)
  show (cfg0.win 5).cut (grid0.coords t) ((dats m 0 c).after 5 t) = _
  rw [after0_5]
  obtain ⟨e0, e1⟩ := idx5 t
  funext y
  have hx : (cfg0.win 5).xinj (grid0.coords t) y = ix2 (n0 := 1024) (n1 := 256) ⟨(y 0).val, (y 0).isLt⟩ ⟨(y 1).val, (y 1).isLt⟩ := by
    funext a
    match a with
    | ⟨0, _⟩ => rfl
    | ⟨1, _⟩ => rfl
  show (outsAt0 m c t.val t.isLt).1 ((cfg0.win 5).xinj (grid0.coords t) y) = result m c (((cfg0.win 5).blk t).view.emb y)
  rw [hx, block_apply m c t ⟨t.val / 103, by omega⟩ rfl ⟨t.val % 103, by omega⟩ rfl]
  unfold result
  refine blockVal_eq _ _ _ _ _ _ _ _ _ _ _ ?_ ?_
  · show win0_5.index t (0 : Fin 2) * 1024 + 1 * (y 0).val = 1024 * (t.val / 103) + (y 0).val
    rw [e0]; omega
  · show win0_5.index t (1 : Fin 2) * 256 + 1 * (y 1).val = 256 * (t.val % 103) + (y 1).val
    rw [e1]; omega

/-- Every entry of the array is in some point's block. -/
theorem covered5 (i : S6144x26368.Idx) :
    ∃ t : Fin cfg0.N, (cfg0.win 5).flush t = true ∧ i ∈ ((cfg0.win 5).blk t).view.set := by
  have hi0 : (i 0).val < 6144 := (i 0).isLt
  have hi1 : (i 1).val < 26368 := (i 1).isLt
  have ht : 103 * ((i 0).val / 1024) + (i 1).val / 256 < cfg0.N := lt_of_lt_of_eq (by omega) (show 618 = cfg0.N from N_0.symm)
  refine ⟨⟨103 * ((i 0).val / 1024) + (i 1).val / 256, ht⟩, flush0_5 _, ?_⟩
  obtain ⟨e0, e1⟩ := idx5 ⟨103 * ((i 0).val / 1024) + (i 1).val / 256, ht⟩
  dsimp only at e0 e1
  show i ∈ ((View.whole main_v3).slice (win0_5.rect ⟨103 * ((i 0).val / 1024) + (i 1).val / 256, ht⟩)).set
  rw [View.set_slice_whole, Rect.mem_set_unit]
  intro a
  match a with
  | ⟨0, _⟩ => show win0_5.index _ (0 : Fin 2) * 1024 ≤ (i 0).val ∧ (i 0).val < win0_5.index _ (0 : Fin 2) * 1024 + 1024
              rw [e0]; omega
  | ⟨1, _⟩ => show win0_5.index _ (1 : Fin 2) * 256 ≤ (i 1).val ∧ (i 1).val < win0_5.index _ (1 : Fin 2) * 256 + 256
              rw [e1]; omega

/-- The array after the region. -/
theorem final5 (c : Dev nD) : (dats m 0 c).arrAt 5 cfg0.N = result m c :=
  (dats m 0 c).arrAt_eq_of_cover 5 _ (fun t _ => flushed5_eq m c t) covered5

end Cert.KernelIdeal.Hand

end
-- ==== Proof.Run.lean ====
/-
  The kernel's run, read: the host reshapes before the region give it its row-flattened operands, and the reshape after it
  gives the result array its two leading axes back.
-/
module

public import proofs.«01_k».proof.Proof.Array

@[expose] public section

set_option maxRecDepth 16384

noncomputable section

namespace Cert.KernelIdeal.Hand

open Idealize.ShloMosaic Idealize.ShloMosaic.TcCoe Idealize.ShloMosaic.Tactic Idealize.SL.Sem
open Cert.KernelIdeal.Gen
open Idealize.ShloMosaic.Pipeline (Dat)

variable (m : (ℓ : Loc nD τ sig) → Buf (Elt Ideal) ℓ) (ρ : Dev nD → PrngReg)

/-- The region finds the activations with their two leading axes flattened. -/
theorem V_v0 (c : Dev nD) : V m c main_v0
    = shapeCast S6144x13824 (m ((c : Thread nD τ).loc main_arg0)) shapeCasts_S2x3072x13824_S6144x13824 := by
  show StableHlo.after [_, _, _] _ _ = _
  after_results
  rfl

/-- The region finds their scales the same way. -/
theorem V_v1 (c : Dev nD) : V m c main_v1
    = shapeCast S6144x108 (m ((c : Thread nD τ).loc main_arg1)) shapeCasts_S2x3072x108_S6144x108 := by
  show StableHlo.after [_, _, _] _ _ = _
  after_results
  rfl

/-- The region finds the bias as one row. -/
theorem V_v2 (c : Dev nD) : V m c main_v2
    = shapeCast S1x26368 (m ((c : Thread nD τ).loc main_arg4)) shapeCasts_S26368_S1x26368 := by
  show StableHlo.after [_, _, _] _ _ = _
  after_results
  rfl

/-- The result array after the reshape that follows the region. -/
theorem tail_v4 (c : Dev nD) : Pipeline.afterTail₀ cfgs (dats m) 0 (V0 m) [hostOps1] c main_v4
    = shapeCast S2x3072x26368 (result m c) shapeCasts_S6144x26368_S2x3072x26368 := by
  unfold Pipeline.afterTail₀
  show StableHlo.after [_] _ _ = _
  simp only [StableHlo.after]
  rw [StableHlo.reshape_result]
  refine funext fun i => ?_
  show shapeCast S2x3072x26368 (Pipeline.withArrays (cfgs 0).spec c (V0 m c) (fun w => (dats m 0 c).arrAt w (cfgs 0).N) (Proc.devRef .tc (Pipeline.arrRef spec0 5))) _ i = _
  rw [Pipeline.withArrays_arr _ launch0.win.arr_inj]
  exact congrArg (fun a => shapeCast S2x3072x26368 a shapeCasts_S6144x26368_S2x3072x26368 i) (final5 m c)

/-- The run: the result array is the reshaped product plus bias, the arguments are unchanged. -/
theorem run : θ_run defs (onTc (τ := τ) (main (F := Ideal))) ⟨m, fun _ => 0, ρ⟩ fun r => ∀ c : Dev nD,
      r.2.mem ((c.tc : Thread nD τ).loc main_v4) = shapeCast S2x3072x26368 (result m c) shapeCasts_S6144x26368_S2x3072x26368
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c =>
    ⟨((h c).2 main_v4 (Pipeline.mem_restRefs_of main_v4 (by decide) (by decide))).trans (tail_v4 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).2 main_arg4 (Pipeline.mem_restRefs_of main_arg4 (by decide) (by decide))).trans (W_main_arg4 m (dats m) c)⟩)
    (run_main m ρ)

end Cert.KernelIdeal.Hand

end
-- ==== Proof.Reference.lean ====
/-
  What the reference computes, entry by entry: one contraction over 13824 columns of the scaled activations with the scaled
  weights, plus the bias.
-/
module

public import proofs.«01_k».proof.Proof.Gen.ReferenceIdeal.Value
public import Idealize.ShloMosaic.Lib.Pointwise
public import Idealize.ShloMosaic.Lib.Pipeline.ValueKit

@[expose] public section

set_option maxRecDepth 16384

noncomputable section

namespace Cert.ReferenceIdeal.Hand

open Idealize.ShloMosaic Idealize.ShloMosaic.TcCoe Idealize.ShloMosaic.Tactic Idealize.SL.Sem
open Cert.ReferenceIdeal.Gen

/-- The reference at batch `a`, row `s`, column `n`. -/
theorem ref_apply (x : Vec Ideal S2x3072x13824 .fp8e4m3) (xs : Vec Ideal S2x3072x108 .f32) (w : Vec Ideal S13824x26368 .fp8e4m3)
    (ws : Vec Ideal S108x206 .f32) (bias : Vec Ideal S26368 .bf16) (a : Fin 2) (s : Fin 3072) (n : Fin 26368) :
    k0_pay1 (F := Ideal) x xs w ws bias (ix3 a s n)
      = (∑ k : Fin 13824, x (ix3 a s k) * xs (ix3 a s ⟨k.val / 128, by omega⟩)
          * (w (ix2 k n) * ws (ix2 ⟨k.val / 128, by omega⟩ ⟨n.val / 128, by omega⟩))) + bias (ix1 n) := by
  unfold k0_pay1
  pointwise

end Cert.ReferenceIdeal.Hand

end
-- ==== Proof.Equation.lean ====
/-
  The equation of the two programs: the kernel's flattened product, given its leading axes back, is the reference's product.
-/
module

public import proofs.«01_k».proof.Proof.Run
public import proofs.«01_k».proof.Proof.Reference

@[expose] public section

set_option maxRecDepth 16384

noncomputable section

namespace Cert.KernelIdeal.Hand

open Idealize.ShloMosaic Idealize.ShloMosaic.TcCoe Idealize.ShloMosaic.Tactic Idealize.SL.Sem
open Cert.KernelIdeal.Gen

variable (m : (ℓ : Loc nD τ sig) → Buf (Elt Ideal) ℓ)

/-- Row `3072 a + s` of the flattened activations is row `(a, s)`. -/
theorem flatX (x : Vec Ideal S2x3072x13824 .fp8e4m3) (a : Fin 2) (s : Fin 3072) (k : Fin 13824) (h : 3072 * a.val + s.val < 6144) :
    shapeCast S6144x13824 x shapeCasts_S2x3072x13824_S6144x13824 (ix2 ⟨3072 * a.val + s.val, h⟩ k) = x (ix3 a s k) := by
  refine shapeCast_apply _ _ _ _ ?_
  rw [Shape.rowMajor_val_three, Shape.rowMajor_val_two]
  show (a.val * 3072 + s.val) * 13824 + k.val = (3072 * a.val + s.val) * 13824 + k.val
  omega

/-- The same of the activations' scales. -/
theorem flatXS (xs : Vec Ideal S2x3072x108 .f32) (a : Fin 2) (s : Fin 3072) (k : Fin 108) (h : 3072 * a.val + s.val < 6144) :
    shapeCast S6144x108 xs shapeCasts_S2x3072x108_S6144x108 (ix2 ⟨3072 * a.val + s.val, h⟩ k) = xs (ix3 a s k) := by
  refine shapeCast_apply _ _ _ _ ?_
  rw [Shape.rowMajor_val_three, Shape.rowMajor_val_two]
  show (a.val * 3072 + s.val) * 108 + k.val = (3072 * a.val + s.val) * 108 + k.val
  omega

/-- The bias as one row. -/
theorem rowBias (b : Vec Ideal S26368 .bf16) (n : Fin 26368) :
    shapeCast S1x26368 b shapeCasts_S26368_S1x26368 (ix2 0 n) = b (ix1 n) := by
  refine shapeCast_apply _ _ _ _ ?_
  rw [Shape.rowMajor_val_one, Shape.rowMajor_val_two]
  show n.val = 0 * 26368 + n.val
  omega

/-- The kernel's result is the reference's function of the same arguments. -/
theorem result_eq (c : Dev nD) :
    shapeCast S2x3072x26368 (result m c) shapeCasts_S6144x26368_S2x3072x26368
      = Cert.ReferenceIdeal.Gen.k0_pay1 (F := Ideal) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)) := by
  funext i
  obtain ⟨a, s, n, rfl⟩ : ∃ (a : Fin 2) (s : Fin 3072) (n : Fin 26368), i = ix3 a s n :=
    ⟨i 0, i 1, i 2, funext fun d => by fin_cases d <;> rfl⟩
  have h : 3072 * a.val + s.val < 6144 := by omega
  refine (shapeCast_apply (s := S6144x26368) (result m c) _ (ix3 a s n) (ix2 ⟨3072 * a.val + s.val, h⟩ n) ?_).trans ?_
  · rw [Shape.rowMajor_val_three, Shape.rowMajor_val_two]
    show (3072 * a.val + s.val) * 26368 + n.val = (a.val * 3072 + s.val) * 26368 + n.val
    omega
  · refine Eq.trans ?_ (Cert.ReferenceIdeal.Hand.ref_apply _ _ _ _ _ a s n).symm
    show arrVal (V m c main_v0) (V m c main_v1) (V m c main_arg2) (V m c main_arg3) (V m c main_v2) ⟨3072 * a.val + s.val, h⟩ n = _
    rw [V_v0, V_v1, V_main_arg2, V_main_arg3, V_v2]
    unfold arrVal
    rw [rowBias]
    refine congrArg (· + _) (Finset.sum_congr rfl fun k _ => ?_)
    rw [flatX, flatXS]

end Cert.KernelIdeal.Hand

end
-- ==== Proof.lean ====
/-
  The claims, assembled. The frames are the generated runs'; nothing was rewritten in the kernel's idealization; and the
  value claim sets the kernel's run (Proof/Run.lean) beside the reference's (the generated value run), their results equal
  by Proof/Equation.lean.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Equation
public import Idealize.ShloMosaic.Adequacy
public import Idealize.ShloMosaic.Init

@[expose] public section

noncomputable section

namespace Cert.Proof

open Idealize.ShloMosaic Idealize.SL.Sem Cert.Kernel

/-- At the ideal values the kernel and the reference end with equal results. -/
theorem algebraic : Cert.algebraic_KernelIdeal_ReferenceIdeal (hKernelIdeal := Cert.KernelIdeal.Gen.facts)
    (hReferenceIdeal := Cert.ReferenceIdeal.Gen.facts) := fun m ρ m' ρ' _ hag =>
  ⟨fun c => shapeCast Cert.KernelIdeal.S2x3072x26368 (Cert.KernelIdeal.Hand.result m c)
      Cert.KernelIdeal.Gen.shapeCasts_S6144x26368_S2x3072x26368,
    Cert.KernelIdeal.Hand.run m ρ,
    (θ_run _ _ _).mono (fun _ h c => ⟨(h c).1.trans (by
        rw [(hag c).1, (hag c).2.1, (hag c).2.2.1, (hag c).2.2.2.1, (hag c).2.2.2.2]
        exact (Cert.KernelIdeal.Hand.result_eq m c).symm), (h c).2⟩)
      (Cert.ReferenceIdeal.Value.run m' ρ')⟩

/-- Everything claimed. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, fun m ρ _ => Cert.ReferenceIdeal.Gen.frame m ρ,
  trivial, algebraic⟩

end Cert.Proof

end
